-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536 : Shape := ⟨1, ![65536]⟩
abbrev S16x8x8x25 : Shape := ⟨4, ![16, 8, 8, 25]⟩
abbrev S64x64x16 : Shape := ⟨3, ![64, 64, 16]⟩
abbrev S64x16x64 : Shape := ⟨3, ![64, 16, 64]⟩
abbrev S25x8x16x8 : Shape := ⟨4, ![25, 8, 16, 8]⟩
abbrev S200x128 : Shape := ⟨2, ![200, 128]⟩
abbrev S128 : Shape := ⟨1, ![128]⟩
abbrev S128x1 : Shape := ⟨2, ![128, 1]⟩
abbrev S_ : Shape := ⟨0, ![]⟩
abbrev S16 : Shape := ⟨1, ![16]⟩
abbrev S1x16 : Shape := ⟨2, ![1, 16]⟩
abbrev S128x16 : Shape := ⟨2, ![128, 16]⟩
abbrev S64 : Shape := ⟨1, ![64]⟩
abbrev S64x1 : Shape := ⟨2, ![64, 1]⟩
abbrev S512 : Shape := ⟨1, ![512]⟩
abbrev S1x512 : Shape := ⟨2, ![1, 512]⟩
abbrev S64x512 : Shape := ⟨2, ![64, 512]⟩
abbrev S128x512 : Shape := ⟨2, ![128, 512]⟩
abbrev S25x512x512 : Shape := ⟨3, ![25, 512, 512]⟩
abbrev S1x16x64 : Shape := ⟨3, ![1, 16, 64]⟩
abbrev S25x8x512 : Shape := ⟨3, ![25, 8, 512]⟩
abbrev S16x64 : Shape := ⟨2, ![16, 64]⟩
abbrev S128x64 : Shape := ⟨2, ![128, 64]⟩
abbrev S200x512 : Shape := ⟨2, ![200, 512]⟩
abbrev S512x512x25 : Shape := ⟨3, ![512, 512, 25]⟩

abbrev nBuf : Space → Nat
  | .hbm => 112
  | .vmem => 8
  | .smem => 0
  | _ => 0

abbrev bufTy : (tb : Table) → Fin (tcTables nBuf tb) → BufTy
  | .hbm, ⟨0, _⟩ => ⟨S65536, .f32⟩
  | .hbm, ⟨1, _⟩ => ⟨S16x8x8x25, .f32⟩
  | .hbm, ⟨2, _⟩ => ⟨S64x64x16, .f32⟩
  | .hbm, ⟨3, _⟩ => ⟨S64x16x64, .f32⟩
  | .hbm, ⟨4, _⟩ => ⟨S25x8x16x8, .f32⟩
  | .hbm, ⟨5, _⟩ => ⟨S200x128, .f32⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S128x1, .i32⟩
  | .hbm, ⟨17, _⟩ => ⟨S128x1, .i32⟩
  | .hbm, ⟨18, _⟩ => ⟨S_, .i32⟩
  | .hbm, ⟨19, _⟩ => ⟨S128x1, .i32⟩
  | .hbm, ⟨20, _⟩ => ⟨S128x1, .i1⟩
  | .hbm, ⟨21, _⟩ => ⟨S128x1, .i1⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x1, .i32⟩
  | .hbm, ⟨26, _⟩ => ⟨S16, .i32⟩
  | .hbm, ⟨27, _⟩ => ⟨S1x16, .i32⟩
  | .hbm, ⟨28, _⟩ => ⟨S128x16, .i32⟩
  | .hbm, ⟨29, _⟩ => ⟨S128x16, .i32⟩
  | .hbm, ⟨30, _⟩ => ⟨S128x16, .i1⟩
  | .hbm, ⟨31, _⟩ => ⟨S128x16, .f32⟩
  | .hbm, ⟨32, _⟩ => ⟨S64, .i32⟩
  | .hbm, ⟨33, _⟩ => ⟨S64x1, .i32⟩
  | .hbm, ⟨34, _⟩ => ⟨S512, .i32⟩
  | .hbm, ⟨35, _⟩ => ⟨S1x512, .i32⟩
  | .hbm, ⟨36, _⟩ => ⟨S_, .i32⟩
  | .hbm, ⟨37, _⟩ => ⟨S_, .i32⟩
  | .hbm, ⟨38, _⟩ => ⟨S1x512, .i32⟩
  | .hbm, ⟨39, _⟩ => ⟨S1x512, .i32⟩
  | .hbm, ⟨40, _⟩ => ⟨S1x512, .i32⟩
  | .hbm, ⟨41, _⟩ => ⟨S_, .i32⟩
  | .hbm, ⟨42, _⟩ => ⟨S1x512, .i32⟩
  | .hbm, ⟨43, _⟩ => ⟨S1x512, .i1⟩
  | .hbm, ⟨44, _⟩ => ⟨S1x512, .i32⟩
  | .hbm, ⟨45, _⟩ => ⟨S1x512, .i32⟩
  | .hbm, ⟨46, _⟩ => ⟨S_, .i32⟩
  | .hbm, ⟨47, _⟩ => ⟨S1x512, .i32⟩
  | .hbm, ⟨48, _⟩ => ⟨S1x512, .i1⟩
  | .hbm, ⟨49, _⟩ => ⟨S1x512, .i1⟩
  | .hbm, ⟨50, _⟩ => ⟨S_, .i32⟩
  | .hbm, ⟨51, _⟩ => ⟨S1x512, .i32⟩
  | .hbm, ⟨52, _⟩ => ⟨S1x512, .i32⟩
  | .hbm, ⟨53, _⟩ => ⟨S1x512, .i32⟩
  | .hbm, ⟨54, _⟩ => ⟨S64x512, .i32⟩
  | .hbm, ⟨55, _⟩ => ⟨S64x512, .i32⟩
  | .hbm, ⟨56, _⟩ => ⟨S64x512, .i1⟩
  | .hbm, ⟨57, _⟩ => ⟨S64x512, .f32⟩
  | .hbm, ⟨58, _⟩ => ⟨S128, .i32⟩
  | .hbm, ⟨59, _⟩ => ⟨S128x1, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S128x1, .i32⟩
  | .hbm, ⟨67, _⟩ => ⟨S128x1, .i32⟩
  | .hbm, ⟨68, _⟩ => ⟨S_, .i32⟩
  | .hbm, ⟨69, _⟩ => ⟨S128x1, .i32⟩
  | .hbm, ⟨70, _⟩ => ⟨S128x1, .i1⟩
  | .hbm, ⟨71, _⟩ => ⟨S_, .i32⟩
  | .hbm, ⟨72, _⟩ => ⟨S128x1, .i32⟩
  | .hbm, ⟨73, _⟩ => ⟨S128x1, .i1⟩
  | .hbm, ⟨74, _⟩ => ⟨S_, .i32⟩
  | .hbm, ⟨75, _⟩ => ⟨S_, .i1⟩
  | .hbm, ⟨76, _⟩ => ⟨S128x1, .i1⟩
  | .hbm, ⟨77, _⟩ => ⟨S128x1, .i1⟩
  | .hbm, ⟨78, _⟩ => ⟨S128x1, .i1⟩
  | .hbm, ⟨79, _⟩ => ⟨S128x1, .i32⟩
  | .hbm, ⟨80, _⟩ => ⟨S128x1, .i32⟩
  | .hbm, ⟨81, _⟩ => ⟨S128x1, .i32⟩
  | .hbm, ⟨82, _⟩ => ⟨S512, .i32⟩
  | .hbm, ⟨83, _⟩ => ⟨S1x512, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S1x512, .i32⟩
  | .hbm, ⟨91, _⟩ => ⟨S1x512, .i32⟩
  | .hbm, ⟨92, _⟩ => ⟨S_, .i32⟩
  | .hbm, ⟨93, _⟩ => ⟨S1x512, .i32⟩
  | .hbm, ⟨94, _⟩ => ⟨S1x512, .i1⟩
  | .hbm, ⟨95, _⟩ => ⟨S_, .i32⟩
  | .hbm, ⟨96, _⟩ => ⟨S1x512, .i32⟩
  | .hbm, ⟨97, _⟩ => ⟨S1x512, .i1⟩
  | .hbm, ⟨98, _⟩ => ⟨S_, .i32⟩
  | .hbm, ⟨99, _⟩ => ⟨S_, .i1⟩
  | .hbm, ⟨100, _⟩ => ⟨S1x512, .i1⟩
  | .hbm, ⟨101, _⟩ => ⟨S1x512, .i1⟩
  | .hbm, ⟨102, _⟩ => ⟨S1x512, .i1⟩
  | .hbm, ⟨103, _⟩ => ⟨S1x512, .i32⟩
  | .hbm, ⟨104, _⟩ => ⟨S1x512, .i32⟩
  | .hbm, ⟨105, _⟩ => ⟨S1x512, .i32⟩
  | .hbm, ⟨106, _⟩ => ⟨S128x512, .i32⟩
  | .hbm, ⟨107, _⟩ => ⟨S128x512, .i32⟩
  | .hbm, ⟨108, _⟩ => ⟨S128x512, .i1⟩
  | .hbm, ⟨109, _⟩ => ⟨S128x512, .f32⟩
  | .hbm, ⟨110, _⟩ => ⟨S25x512x512, .f32⟩
  | .hbm, ⟨111, _⟩ => ⟨S512x512x25, .f32⟩
  | .local _ .vmem, ⟨0, _⟩ => ⟨S1x16x64, .f32⟩
  | .local _ .vmem, ⟨1, _⟩ => ⟨S1x16x64, .f32⟩
  | .local _ .vmem, ⟨2, _⟩ => ⟨S200x128, .f32⟩
  | .local _ .vmem, ⟨3, _⟩ => ⟨S128x16, .f32⟩
  | .local _ .vmem, ⟨4, _⟩ => ⟨S64x512, .f32⟩
  | .local _ .vmem, ⟨5, _⟩ => ⟨S128x512, .f32⟩
  | .local _ .vmem, ⟨6, _⟩ => ⟨S25x8x512, .f32⟩
  | .local _ .vmem, ⟨7, _⟩ => ⟨S25x8x512, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_1 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_2 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S65536 : Shape := ⟨1, ![65536]⟩
abbrev S16x8x8x25 : Shape := ⟨4, ![16, 8, 8, 25]⟩
abbrev S64x64x16 : Shape := ⟨3, ![64, 64, 16]⟩
abbrev S8x8x25x64x64 : Shape := ⟨5, ![8, 8, 25, 64, 64]⟩
abbrev S64x8x64x8x25 : Shape := ⟨5, ![64, 8, 64, 8, 25]⟩
abbrev S512x512x25 : Shape := ⟨3, ![512, 512, 25]⟩

abbrev nBuf : Space → Nat
  | .hbm => 6
  | .vmem => 0
  | .smem => 0
  | _ => 0

abbrev bufTy : (tb : Table) → Fin (tcTables nBuf tb) → BufTy
  | .hbm, ⟨0, _⟩ => ⟨S65536, .f32⟩
  | .hbm, ⟨1, _⟩ => ⟨S16x8x8x25, .f32⟩
  | .hbm, ⟨2, _⟩ => ⟨S64x64x16, .f32⟩
  | .hbm, ⟨3, _⟩ => ⟨S8x8x25x64x64, .f32⟩
  | .hbm, ⟨4, _⟩ => ⟨S64x8x64x8x25, .f32⟩
  | .hbm, ⟨5, _⟩ => ⟨S512x512x25, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Body.lean ====
/- What one grid point of the kernel writes, read at an index. -/
module

public import proofs.«01_k».proof.Proof.Gen.KernelIdeal.Skeleton
public import Idealize.ShloMosaic.Lib.Pointwise

@[expose] public section

set_option maxRecDepth 16384

noncomputable section

namespace Cert.KernelIdeal.Body

open Idealize.ShloMosaic Cert.KernelIdeal

/-- The block that a grid point stores, at sample point `s`, row `x` of its output field and column `c`: the
    row `8 s + x` of the basis matrix `l` times column `c` of the masked product of the selectors with the
    field's coefficients `w`. -/
theorem pay_apply (w : Vec Ideal S1x16x64 .f32) (selD : Vec Ideal S128x16 .f32) (sel64 : Vec Ideal S64x512 .f32)
    (mask : Vec Ideal S128x512 .f32) (l : Vec Ideal S200x128 .f32) (s : Fin 25) (x : Fin 8) (c : Fin 512) :
    Gen.k0_pay1 w selD sel64 mask l (ix3 s x c)
      = ∑ q : Fin 128, l (ix2 ⟨s.val * 8 + x.val, by omega⟩ q)
          * ((∑ i : Fin 64, (∑ d : Fin 16, selD (ix2 q d) * w (ix3 0 d i)) * sel64 (ix2 i c)) * mask (ix2 q c)) := by
  pointwise [Gen.k0_pay1]

end Cert.KernelIdeal.Body

end
-- ==== Proof.Selectors.lean ====
/- What the host lines before the launch put into the operands of the kernel, read at an index. -/
module

public import proofs.«01_k».proof.Proof.Gen.KernelIdeal.Frame
public import Idealize.ShloMosaic.Lib.Pointwise
public import Idealize.ShloMosaic.Lib.StableHlo.ReadAt
public import Idealize.ShloMosaic.Lib.Tactic.WordOmega

@[expose] public section

set_option maxRecDepth 16384

noncomputable section

namespace Cert.KernelIdeal.Operands

open Idealize.ShloMosaic Idealize.ShloMosaic.TcCoe Idealize.SL.Sem Cert.KernelIdeal

/-! ## The index words -/

/-- The floor of `x / 8` as jnp computes it on words: the quotient, less one where the signs differ and a remainder is left. -/
def floorWord (x : BitVec 32) : BitVec 32 :=
  Scalar.select
    (IntOp.andi
      (IntOp.cmpi .ne (if x = 0 then 0 else if x.msb = true then -1 else 1 : BitVec 32)
        (if (8#32 : BitVec 32) = 0 then 0 else if BitVec.msb (8#32) = true then -1 else 1))
      (IntOp.cmpi .ne (IntOp.remsi .host x 8#32) 0#32))
    (IntOp.subi (IntOp.divsi .host x 8#32) 1#32)
    (IntOp.divsi .host x 8#32)

/-- On the words below 512 it is the quotient of naturals. -/
theorem floorWord_eq : ∀ n : Fin 512, floorWord (BitVec.ofNat 32 n.val) = BitVec.ofNat 32 (n.val / 8) := by
  decide +kernel

/-- The remainder of `x` by 8 as jnp computes it on words: the machine's, plus 8 where its sign is the divisor's other. -/
def modWord (x : BitVec 32) : BitVec 32 :=
  let e : BitVec 32 := Scalar.select (IntOp.cmpi .eq (8#32) 0#32) (1#32) (8#32)
  Scalar.select
    (IntOp.andi
      (IntOp.cmpi .ne (IntOp.cmpi .slt (IntOp.remsi .host x e) 0#32) (IntOp.cmpi .slt e 0#32))
      (IntOp.cmpi .ne (IntOp.remsi .host x e) 0#32))
    (IntOp.addi (IntOp.remsi .host x e) e)
    (IntOp.remsi .host x e)

/-- On the words below 512 it is the remainder of naturals. -/
theorem modWord_eq : ∀ n : Fin 512, modWord (BitVec.ofNat 32 n.val) = BitVec.ofNat 32 (n.val % 8) := by
  decide +kernel

/-- The bit of an equation between words of numbers below 512, converted to a float: one where the numbers agree, else zero. -/
theorem uitofp_eq (a b : ℕ) (ha : a < 512) (hb : b < 512) :
    (FloatOps.uitofp (F := Ideal) .f32 (IntOp.cmpi .eq (BitVec.ofNat 32 a) (BitVec.ofNat 32 b)) : EReal)
      = if a = b then 1 else 0 := by
  have key : (BitVec.ofNat 32 a == BitVec.ofNat 32 b) = decide (a = b) := by
    rw [Bool.eq_iff_iff, beq_iff_eq, decide_eq_true_iff, BitVec.toNat_inj.symm, BitVec.toNat_ofNat, BitVec.toNat_ofNat,
      Nat.mod_eq_of_lt (by omega), Nat.mod_eq_of_lt (by omega)]
  show ((((BitVec.ofBool (BitVec.ofNat 32 a == BitVec.ofNat 32 b)).toNat : ℕ) : ℝ) : EReal) = _
  rw [key]
  by_cases h : a = b <;> simp [h]

variable (m : (ℓ : Loc nD τ sig) → Buf (Elt Ideal) ℓ) (c : Dev nD)

/-! ## The arguments, laid out -/

/-- The coefficients, per output field, basis element and input field. -/
theorem wt_apply (o : Fin 64) (d : Fin 16) (i : Fin 64) :
    Gen.V m c main_v1 (ix3 o d i)
      = m ((c.tc : Thread nD τ).loc main_arg0) (ix1 ⟨o.val * 1024 + i.val * 16 + d.val, by omega⟩) := by
  unfold Gen.V
  after_reads_at

/-- The basis as a matrix: row `8 s + x`, column `8 d + y`. -/
theorem lmat_apply (p : Fin 200) (q : Fin 128) :
    Gen.V m c main_v3 (ix2 p q)
      = m ((c.tc : Thread nD τ).loc main_arg1)
          (ix4 ⟨q.val / 8, by omega⟩ ⟨p.val % 8, by omega⟩ ⟨q.val % 8, by omega⟩ ⟨p.val / 8, by omega⟩) := by
  unfold Gen.V
  after_reads_at

/-! ## The selectors and the mask -/

/-- The left selector has a one where the row's group of eight is the column. -/
theorem selD_apply (q : Fin 128) (d : Fin 16) :
    Gen.V m c main_v12 (ix2 q d) = if q.val / 8 = d.val then (1 : EReal) else 0 := by
  unfold Gen.V
  after_reads_at
  refine Eq.trans ?_ (uitofp_eq (q.val / 8) d.val (by omega) (by omega))
  rw [← floorWord_eq ⟨q.val, by omega⟩]
  unfold floorWord
  simp only [id, constantI_apply]
  rfl

/-- The right selector has a one where the column's group of eight is the row. -/
theorem sel64_apply (i : Fin 64) (k : Fin 512) :
    Gen.V m c main_v21 (ix2 i k) = if i.val = k.val / 8 then (1 : EReal) else 0 := by
  unfold Gen.V
  after_reads_at
  refine Eq.trans ?_ (uitofp_eq i.val (k.val / 8) (by omega) (by omega))
  rw [← floorWord_eq k]
  unfold floorWord
  simp only [id, constantI_apply]
  rfl

/-- The mask has a one where row and column have the same place in their groups of eight. -/
theorem mask_apply (q : Fin 128) (k : Fin 512) :
    Gen.V m c main_v31 (ix2 q k) = if q.val % 8 = k.val % 8 then (1 : EReal) else 0 := by
  unfold Gen.V
  after_reads_at
  refine Eq.trans ?_ (uitofp_eq (q.val % 8) (k.val % 8) (by omega) (by omega))
  rw [← modWord_eq ⟨q.val, by omega⟩, ← modWord_eq k]
  unfold modWord
  simp only [id, constantI_apply]

end Cert.KernelIdeal.Operands

end
-- ==== Proof.Collapse.lean ====
/- The sums of the kernel's three products, once the selectors and the mask are read as zeros and ones. -/
module

public import Mathlib.Data.EReal.Inv
public import Mathlib.Algebra.BigOperators.Fin

@[expose] public section

namespace Cert.Collapse

/-- A sum against the indicator of one place, on the left, is the term at that place. -/
theorem sum_select_left {n : ℕ} (a : ℕ) (h : a < n) (f : Fin n → EReal) :
    ∑ d : Fin n, (if a = d.val then (1 : EReal) else 0) * f d = f ⟨a, h⟩ := by
  rw [Finset.sum_eq_single (⟨a, h⟩ : Fin n)]
  · rw [if_pos rfl, one_mul]
  · intro d _ hd
    rw [if_neg (fun e => hd (Fin.ext e.symm)), zero_mul]
  · exact fun hn => absurd (Finset.mem_univ _) hn

/-- The same with the indicator on the right. -/
theorem sum_select_right {n : ℕ} (a : ℕ) (h : a < n) (f : Fin n → EReal) :
    ∑ i : Fin n, f i * (if i.val = a then (1 : EReal) else 0) = f ⟨a, h⟩ := by
  rw [← sum_select_left a h f]
  exact Finset.sum_congr rfl fun i _ => by rw [mul_comm]; simp only [eq_comm]

/-- A sum over the 128 pairs (basis element, place), of which the mask keeps one place, is the sum over the 16
    basis elements at that place. -/
theorem sum_masked (y : Fin 8) (l w : Fin 16 → Fin 8 → EReal) :
    ∑ q : Fin 128, l ⟨q.val / 8, by omega⟩ ⟨q.val % 8, by omega⟩
        * (w ⟨q.val / 8, by omega⟩ ⟨q.val % 8, by omega⟩ * (if q.val % 8 = y.val then (1 : EReal) else 0))
      = ∑ d : Fin 16, l d y * w d y := by
  rw [← Equiv.sum_comp (finProdFinEquiv (m := 16) (n := 8)), Fintype.sum_prod_type]
  refine Finset.sum_congr rfl fun d _ => ?_
  have hd : ∀ z : Fin 8, ((finProdFinEquiv (d, z) : Fin (16 * 8)).val) = z.val + 8 * d.val := fun z => rfl
  rw [← sum_select_right y.val y.isLt (fun z => l d z * w d z)]
  refine Finset.sum_congr rfl fun z _ => ?_
  have h1 : ((finProdFinEquiv (d, z) : Fin (16 * 8)).val) / 8 = d.val := by rw [hd]; omega
  have h2 : ((finProdFinEquiv (d, z) : Fin (16 * 8)).val) % 8 = z.val := by rw [hd]; omega
  simp only [h1, h2, Fin.eta, mul_assoc]

end Cert.Collapse
-- ==== Proof.Array.lean ====
/- What the array that the kernel writes holds after the run. -/
module

public import proofs.«01_k».proof.Proof.Body
public import proofs.«01_k».proof.Proof.Selectors
public import proofs.«01_k».proof.Proof.Collapse
public import Idealize.ShloMosaic.Lib.Pipeline.ValueKit

@[expose] public section

set_option maxRecDepth 16384

noncomputable section

namespace Cert.KernelIdeal.Out

open Idealize.ShloMosaic Idealize.ShloMosaic.TcCoe Idealize.SL.Sem Cert.KernelIdeal

/-- One entry of the filter: at output field `o`, row `x` of its eight, column `k` of the input fields and sample
    point `s`, the sum over the basis elements of the basis at `(x, k mod 8, s)` times the coefficient of the fields
    `(o, k / 8)`. -/
def entry (x0 : S65536.Idx → EReal) (x1 : S16x8x8x25.Idx → EReal) (o : Fin 64) (x : Fin 8) (k : Fin 512) (s : Fin 25) :
    EReal :=
  ∑ d : Fin 16, x1 (ix4 d x ⟨k.val % 8, by omega⟩ s) * x0 (ix1 ⟨o.val * 1024 + k.val / 8 * 16 + d.val, by omega⟩)

/-- The filter with the sample point first: row `r` is row `r mod 8` of output field `r / 8`. -/
def G (x0 : S65536.Idx → EReal) (x1 : S16x8x8x25.Idx → EReal) : S25x512x512.Idx → EReal := fun j =>
  entry x0 x1 ⟨(j 1).val / 8, by have h : (j 1).val < 512 := (j 1).isLt; omega⟩ ⟨(j 1).val % 8, by omega⟩ (j 2) (j 0)

/-- The filter read at row `x` of output field `o`. -/
theorem G_apply (x0 : S65536.Idx → EReal) (x1 : S16x8x8x25.Idx → EReal) (s : Fin 25) (o : Fin 64) (x : Fin 8)
    (k : Fin 512) : G x0 x1 (ix3 s ⟨o.val * 8 + x.val, by omega⟩ k) = entry x0 x1 o x k s := by
  have ho : (⟨(o.val * 8 + x.val) / 8, by omega⟩ : Fin 64) = o := Fin.ext (by simp only; omega)
  have hx : (⟨(o.val * 8 + x.val) % 8, by omega⟩ : Fin 8) = x := Fin.ext (by simp only; omega)
  show entry x0 x1 ⟨(o.val * 8 + x.val) / 8, _⟩ ⟨(o.val * 8 + x.val) % 8, _⟩ k s = _
  rw [ho, hx]

variable (m : (ℓ : Loc nD τ sig) → Buf (Elt Ideal) ℓ) (c : Dev nD)

/-- The index map of each window, at every point. -/
theorem idx : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![0, t.val, 0] := by
  decide +kernel

/-- The output field of a grid point. -/
def field (t : Fin cfg0.N) : Fin 64 := ⟨t.val, t.isLt⟩

/-- The first window's block is the coefficients of its output field. -/
theorem wt_block (t : Fin cfg0.N) (d : Fin 16) (i : Fin 64) :
    Gen.iblk m c 0 t (ix3 0 d i) = Gen.V m c main_v1 (ix3 (field t) d i) := by
  unfold Gen.iblk
  generalize Gen.V m c = f
  blk_ext [(idx t).1, field]

/-- The second window's block is the whole basis. -/
theorem lmat_block (t : Fin cfg0.N) (p : Fin 200) (q : Fin 128) :
    Gen.iblk m c 1 t (ix2 p q) = Gen.V m c main_v3 (ix2 p q) := by
  unfold Gen.iblk
  generalize Gen.V m c = f
  blk_ext [(idx t).2.1]

/-- The third window's block is the whole left selector. -/
theorem selD_block (t : Fin cfg0.N) (q : Fin 128) (d : Fin 16) :
    Gen.iblk m c 2 t (ix2 q d) = Gen.V m c main_v12 (ix2 q d) := by
  unfold Gen.iblk
  generalize Gen.V m c = f
  blk_ext [(idx t).2.2.1]

/-- The fourth window's block is the whole right selector. -/
theorem sel64_block (t : Fin cfg0.N) (i : Fin 64) (k : Fin 512) :
    Gen.iblk m c 3 t (ix2 i k) = Gen.V m c main_v21 (ix2 i k) := by
  unfold Gen.iblk
  generalize Gen.V m c = f
  blk_ext [(idx t).2.2.2.1]

/-- The fifth window's block is the whole mask. -/
theorem mask_block (t : Fin cfg0.N) (q : Fin 128) (k : Fin 512) :
    Gen.iblk m c 4 t (ix2 q k) = Gen.V m c main_v31 (ix2 q k) := by
  unfold Gen.iblk
  generalize Gen.V m c = f
  blk_ext [(idx t).2.2.2.2.1]

/-- The block that grid point `t` writes holds the filter's rows of output field `t`. -/
theorem block_eq (t : Fin cfg0.N) (s : Fin 25) (x : Fin 8) (k : Fin 512) :
    Gen.k0_pay1 (Gen.iblk m c 0 t) (Gen.iblk m c 2 t) (Gen.iblk m c 3 t) (Gen.iblk m c 4 t) (Gen.iblk m c 1 t) (ix3 s x k)
      = entry (m ((c.tc : Thread nD τ).loc main_arg0)) (m ((c.tc : Thread nD τ).loc main_arg1)) (field t) x k s := by
  rw [Body.pay_apply]
  refine Eq.trans ?_ (Collapse.sum_masked ⟨k.val % 8, by omega⟩
    (fun d y => m ((c.tc : Thread nD τ).loc main_arg1) (ix4 d x y s))
    (fun d _ => m ((c.tc : Thread nD τ).loc main_arg0)
      (ix1 ⟨(field t).val * 1024 + k.val / 8 * 16 + d.val, by omega⟩)))
  refine Finset.sum_congr rfl fun q _ => congrArg₂ (fun a b : EReal => a * b) ?_ (congrArg₂ (fun a b : EReal => a * b) ?_ ?_)
  · refine (lmat_block m c t _ q).trans ((Operands.lmat_apply m c _ q).trans ?_)
    blk_ext
  · refine (Finset.sum_congr rfl fun i _ => congrArg₂ (fun a b : EReal => a * b)
      (Finset.sum_congr rfl fun d _ => congrArg₂ (fun a b : EReal => a * b)
        ((selD_block m c t q d).trans (Operands.selD_apply m c q d))
        ((wt_block m c t d i).trans (Operands.wt_apply m c (field t) d i)))
      ((sel64_block m c t i k).trans (Operands.sel64_apply m c i k))).trans ?_
    refine (Collapse.sum_select_right (k.val / 8) (by omega) _).trans ?_
    exact Collapse.sum_select_left (q.val / 8) (by omega) _
  · exact (mask_block m c t q k).trans (Operands.mask_apply m c q k)

/-- The array after the run is the filter of the arguments. -/
theorem final : (Gen.dats m 0 c).arrAt 5 (cfgs 0).N
    = G (m ((c.tc : Thread nD τ).loc main_arg0)) (m ((c.tc : Thread nD τ).loc main_arg1)) := by
  refine (Gen.dats m 0 c).arrAt_eq_of_covers 5 _ (by decide +kernel) fun t hf y => ?_
  blk_simp
  rw [Gen.after0_5]
  frame_out
  idx_vars y
  refine (block_eq m c t y0 y1 y2).trans ?_
  refine (G_apply _ _ y0 (field t) y1 y2).symm.trans (congrArg _ ?_)
  blk_ext [(idx t).2.2.2.2.2, field]

end Cert.KernelIdeal.Out

end
-- ==== Proof.Equation.lean ====
/- The reference's result and the kernel's, read at an index, are one sum. -/
module

public import proofs.«01_k».proof.Proof.Array
public import proofs.«01_k».proof.Proof.Gen.ReferenceIdeal.Read

@[expose] public section

set_option maxRecDepth 16384

noncomputable section

namespace Cert.Equation

open Idealize.ShloMosaic Idealize.ShloMosaic.TcCoe Idealize.SL.Sem

/-- The reference's result at row `r`, column `k` and sample point `s`. -/
theorem reference_apply (x0 : Cert.ReferenceIdeal.S65536.Idx → EReal) (x1 : Cert.ReferenceIdeal.S16x8x8x25.Idx → EReal)
    (r k : Fin 512) (s : Fin 25) :
    Cert.ReferenceIdeal.Read.val_main_v3 (F := Ideal) x0 x1 (ix3 r k s)
      = ∑ d : Fin 16, x1 (ix4 d ⟨r.val % 8, by omega⟩ ⟨k.val % 8, by omega⟩ s)
          * x0 (ix1 ⟨r.val / 8 * 1024 + k.val / 8 * 16 + d.val, by omega⟩) := by
  rw [← Cert.ReferenceIdeal.Read.val_main_v3_eq]
  pointwise

/-- The kernel's filter with the sample point moved to the last place is the reference's. -/
theorem result_eq (x0 : Cert.ReferenceIdeal.S65536.Idx → EReal) (x1 : Cert.ReferenceIdeal.S16x8x8x25.Idx → EReal) :
    transpose Cert.KernelIdeal.S512x512x25 [1, 2, 0] (Cert.KernelIdeal.Out.G x0 x1)
        Cert.KernelIdeal.Facts₀.transposes_S25x512x512_S512x512x25_1_2_0
      = Cert.ReferenceIdeal.Read.val_main_v3 (F := Ideal) x0 x1 := by
  funext j
  idx_vars j
  refine Eq.trans ?_ (reference_apply x0 x1 _ _ _).symm
  pointwise
  rfl

end Cert.Equation

end
-- ==== Proof.Result.lean ====
/- The kernel's run with its result named: the reference's function of the arguments. -/
module

public import proofs.«01_k».proof.Proof.Equation
public import Idealize.ShloMosaic.Lib.Claim

@[expose] public section

set_option maxRecDepth 16384

noncomputable section

namespace Cert.KernelIdeal.Result

open Idealize.ShloMosaic Idealize.ShloMosaic.TcCoe Idealize.SL.Sem Cert.KernelIdeal

variable (m : (ℓ : Loc nD τ sig) → Buf (Elt Ideal) ℓ)

/-- The line after the launch leaves the written array, sample point moved to the last place, in the result. -/
theorem tail_eq (c : Dev nD) :
    Pipeline.afterTail₀ cfgs (Gen.dats m) 0 (Gen.V0 m) [Gen.hostOps1] c main_v33
      = Cert.ReferenceIdeal.Read.val_main_v3 (F := Ideal) (m ((c.tc : Thread nD τ).loc main_arg0))
          (m ((c.tc : Thread nD τ).loc main_arg1)) := by
  rw [← Cert.Equation.result_eq, ← Out.final m c]
  unfold Pipeline.afterTail₀
  simp only [Gen.hostOps1, List.flatten_cons, List.flatten_nil, List.append_nil]
  after_results
  exact congrArg (fun x : S25x512x512.Idx → EReal =>
      transpose S512x512x25 [1, 2, 0] x Facts₀.transposes_S25x512x512_S512x512x25_1_2_0)
    (Pipeline.withArrays_arr spec0 (by decide) c (Gen.V0 m c) _ 5)

/-- Every run ends with the reference's function of the arguments in the result, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v33)
          = Cert.ReferenceIdeal.Read.val_main_v3 (F := Ideal) (m ((c.tc : Thread nD τ).loc main_arg0))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h.1 c).2 main_v33 (Pipeline.mem_restRefs_of main_v33 (by decide) (by decide))).trans (tail_eq m c),
      h.2 c⟩)
    (θ_run_and (Gen.run_main m ρ) (Gen.unchanged m ρ))

end Cert.KernelIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments unchanged and every counter at zero: it has no semaphore. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m g _ => reference_quiescent m g, trivial, ?_⟩
  pair_intro
  · run_from Cert.KernelIdeal.Result.run m g
  · run_from Cert.ReferenceIdeal.Value.run m' g'
    exact Cert.ReferenceIdeal.Read.val_main_v3_eq _ _⟩

end Cert.Proof

end
